-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.HalfStatement Cert.KernelIdeal.S32x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x8192 : Shape := ⟨3, ![96, 1, 8192]⟩
abbrev S4096x11264 : Shape := ⟨2, ![4096, 11264]⟩
abbrev S64x11264 : Shape := ⟨2, ![64, 11264]⟩
abbrev S96x8192 : Shape := ⟨2, ![96, 8192]⟩
abbrev S96x11264 : Shape := ⟨2, ![96, 11264]⟩
abbrev S4096x512 : Shape := ⟨2, ![4096, 512]⟩
abbrev S64x512 : Shape := ⟨2, ![64, 512]⟩
abbrev S96x512 : Shape := ⟨2, ![96, 512]⟩
abbrev S32x96x256 : Shape := ⟨3, ![32, 96, 256]⟩
abbrev S256x256 : Shape := ⟨2, ![256, 256]⟩
abbrev S96x128 : Shape := ⟨2, ![96, 128]⟩
abbrev S96x256 : Shape := ⟨2, ![96, 256]⟩
abbrev S1x96x256 : Shape := ⟨3, ![1, 96, 256]⟩
abbrev S32x512 : Shape := ⟨2, ![32, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S8x512 : Shape := ⟨2, ![8, 512]⟩
abbrev S16x512 : Shape := ⟨2, ![16, 512]⟩
abbrev S16x16x512 : Shape := ⟨3, ![16, 16, 512]⟩
abbrev S1x16x512 : Shape := ⟨3, ![1, 16, 512]⟩

abbrev nBuf : Space → Nat
  | .hbm => 6
  | .vmem => 10
  | .smem => 0
  | _ => 0

abbrev bufTy : (tb : Table) → Fin (tcTables nBuf tb) → BufTy
  | .hbm, ⟨0, _⟩ => ⟨S96x1x8192, .bf16⟩
  | .hbm, ⟨1, _⟩ => ⟨S4096x11264, .i8⟩
  | .hbm, ⟨2, _⟩ => ⟨S64x11264, .bf16⟩
  | .hbm, ⟨3, _⟩ => ⟨S64x11264, .bf16⟩
  | .hbm, ⟨4, _⟩ => ⟨S96x8192, .bf16⟩
  | .hbm, ⟨5, _⟩ => ⟨S96x11264, .bf16⟩
  | .local _ .vmem, ⟨0, _⟩ => ⟨S96x8192, .bf16⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S96x512, .bf16⟩
  | .local _ .vmem, ⟨8, _⟩ => ⟨S96x512, .bf16⟩
  | .local _ .vmem, ⟨9, _⟩ => ⟨S32x96x256, .bf16⟩
  | _, _ => ⟨S96x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S96x1x8192 : Shape := ⟨3, ![96, 1, 8192]⟩
abbrev S4096x11264 : Shape := ⟨2, ![4096, 11264]⟩
abbrev S64x11264 : Shape := ⟨2, ![64, 11264]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S96x64x128 : Shape := ⟨3, ![96, 64, 128]⟩
abbrev S96x2x32x128 : Shape := ⟨4, ![96, 2, 32, 128]⟩
abbrev S32x128x11264 : Shape := ⟨3, ![32, 128, 11264]⟩
abbrev S1x32x128x11264 : Shape := ⟨4, ![1, 32, 128, 11264]⟩
abbrev S2x32x128x11264 : Shape := ⟨4, ![2, 32, 128, 11264]⟩
abbrev S2x32x1x11264 : Shape := ⟨4, ![2, 32, 1, 11264]⟩
abbrev S96x11264 : Shape := ⟨2, ![96, 11264]⟩

abbrev nBuf : Space → Nat
  | .hbm => 49
  | .vmem => 0
  | .smem => 0
  | _ => 0

abbrev bufTy : (tb : Table) → Fin (tcTables nBuf tb) → BufTy
  | .hbm, ⟨0, _⟩ => ⟨S96x1x8192, .bf16⟩
  | .hbm, ⟨1, _⟩ => ⟨S4096x11264, .i8⟩
  | .hbm, ⟨2, _⟩ => ⟨S64x11264, .bf16⟩
  | .hbm, ⟨3, _⟩ => ⟨S64x11264, .bf16⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S96x1x8192, .f32⟩
  | .hbm, ⟨25, _⟩ => ⟨S96x64x128, .f32⟩
  | .hbm, ⟨26, _⟩ => ⟨S96x64x128, .f32⟩
  | .hbm, ⟨27, _⟩ => ⟨S96x2x32x128, .f32⟩
  | .hbm, ⟨28, _⟩ => ⟨S96x2x32x128, .bf16⟩
  | .hbm, ⟨29, _⟩ => ⟨S4096x11264, .i32⟩
  | .hbm, ⟨30, _⟩ => ⟨S32x128x11264, .i32⟩
  | .hbm, ⟨31, _⟩ => ⟨S_, .i32⟩
  | .hbm, ⟨32, _⟩ => ⟨S32x128x11264, .i32⟩
  | .hbm, ⟨33, _⟩ => ⟨S32x128x11264, .i32⟩
  | .hbm, ⟨34, _⟩ => ⟨S_, .i32⟩
  | .hbm, ⟨35, _⟩ => ⟨S32x128x11264, .i32⟩
  | .hbm, ⟨36, _⟩ => ⟨S32x128x11264, .i32⟩
  | .hbm, ⟨37, _⟩ => ⟨S1x32x128x11264, .i32⟩
  | .hbm, ⟨38, _⟩ => ⟨S1x32x128x11264, .i32⟩
  | .hbm, ⟨39, _⟩ => ⟨S2x32x128x11264, .i32⟩
  | .hbm, ⟨40, _⟩ => ⟨S2x32x1x11264, .bf16⟩
  | .hbm, ⟨41, _⟩ => ⟨S2x32x1x11264, .bf16⟩
  | .hbm, ⟨42, _⟩ => ⟨S2x32x128x11264, .bf16⟩
  | .hbm, ⟨43, _⟩ => ⟨S2x32x128x11264, .bf16⟩
  | .hbm, ⟨44, _⟩ => ⟨S2x32x128x11264, .bf16⟩
  | .hbm, ⟨45, _⟩ => ⟨S2x32x128x11264, .bf16⟩
  | .hbm, ⟨46, _⟩ => ⟨S2x32x128x11264, .bf16⟩
  | .hbm, ⟨47, _⟩ => ⟨S96x11264, .f32⟩
  | .hbm, ⟨48, _⟩ => ⟨S96x11264, .bf16⟩
  | _, _ => ⟨S96x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Proof.Steps.lean ====
/- What one run of the kernel's body computes, as one term in the group number: the dequantized tile of
   group `g`, the accumulator after the first `n` groups, and the block the body stores. -/
module

public import proofs.«01_k».proof.Proof.Gen.KernelIdeal.Value
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

/-- Row `g` of a `32 × 512` array can be sliced off. -/
theorem slices_row (g : Fin 32) : S32x512.Slices ![g.val, 0] S1x512 := by
  refine ⟨rfl, fun a => ?_⟩
  fin_cases a
  · show g.val + 1 ≤ 32; omega
  · show 0 + 512 ≤ 512; omega

/-- The 128 packed rows of group `g` lie inside the packed block. -/
theorem inb_w (g : Fin 32) (a : Fin 2) : (![128 * g.val, 0] : Fin 2 → Nat) a + S128x512.size a ≤ S4096x512.size a := by
  fin_cases a
  · show 128 * g.val + 128 ≤ 4096; omega
  · show 0 + 512 ≤ 512; omega

/-- Slab `g` of the rotated activations lies inside the scratch. -/
theorem inb_x (g : Fin 32) (a : Fin 3) : (![g.val, 0, 0] : Fin 3 → Nat) a + S1x96x256.size a ≤ S32x96x256.size a := by
  fin_cases a
  · show g.val + 1 ≤ 32; omega
  · show 0 + 96 ≤ 96; omega
  · show 0 + 256 ≤ 256; omega

/-- Row `g` of a low and a high half, repeated and interleaved: sixteen rows that alternate the two. -/
def pairRow (lo hi : FVec F S32x512 .bf16) (g : Fin 32) : FVec F S16x512 .bf16 :=
  have a : FVec F S1x512 .bf16 := extractStridedSlice S1x512 ![g.val, 0] lo (slices_row g)
  have b : FVec F S1x512 .bf16 := extractStridedSlice S1x512 ![g.val, 0] hi (slices_row g)
  interleaveRows S16x512
    (concatenate S8x512 0 [⟨S1x512, a⟩, ⟨S1x512, a⟩, ⟨S1x512, a⟩, ⟨S1x512, a⟩, ⟨S1x512, a⟩, ⟨S1x512, a⟩, ⟨S1x512, a⟩, ⟨S1x512, a⟩] concatenates_S1x512_S1x512_S1x512_S1x512_S1x512_S1x512_S1x512_S1x512_S8x512_d0)
    (concatenate S8x512 0 [⟨S1x512, b⟩, ⟨S1x512, b⟩, ⟨S1x512, b⟩, ⟨S1x512, b⟩, ⟨S1x512, b⟩, ⟨S1x512, b⟩, ⟨S1x512, b⟩, ⟨S1x512, b⟩] concatenates_S1x512_S1x512_S1x512_S1x512_S1x512_S1x512_S1x512_S1x512_S8x512_d0)
    bitcasts_S16x512_w16_S8x512_w32

/-- The codes of 128 packed rows: row `2 r` holds the low four bits of byte `r`, row `2 r + 1` the high four. -/
def codes (w : Vec F S128x512 .i8) : IVec S256x512 32 :=
  have p : IVec S128x512 32 := extui 32 w natLt_8_32
  shapeCast S256x512
    (concatenate S128x2x512 1
      [⟨S128x1x512, shapeCast S128x1x512 (andi p (broadcast S128x512 15#32)) shapeCasts_S128x512_S128x1x512⟩,
       ⟨S128x1x512, shapeCast S128x1x512 (shrsi p (broadcast S128x512 4#32)) shapeCasts_S128x512_S128x1x512⟩]
      concatenates_S128x1x512_S128x1x512_S128x2x512_d1)
    shapeCasts_S128x2x512_S256x512

/-- A tile of weights: the codes less the zero points, times the scales. -/
def tile (s z : FVec F S16x512 .bf16) (c : IVec S256x512 32) : FVec F S256x512 .bf16 :=
  shapeCast S256x512
    (mulf
      (subf (shapeCast S16x16x512 (sitofp .bf16 c : FVec F S256x512 .bf16) shapeCasts_S256x512_S16x16x512)
        (broadcastTo S16x16x512 (shapeCast S1x16x512 z shapeCasts_S16x512_S1x16x512) broadcasts_S1x16x512_S16x16x512))
      (broadcastTo S16x16x512 (shapeCast S1x16x512 s shapeCasts_S16x512_S1x16x512) broadcasts_S1x16x512_S16x16x512))
    shapeCasts_S16x16x512_S256x512

/-- The rectangle of slab `g` in the scratch. -/
abbrev slabRect (g : Fin 32) : Rect S32x96x256 := Rect.unit ![g.val, 0, 0] S1x96x256.size (inb_x g)

/-- Slab `g` of the scratch. -/
def slab (xs : Vec F S32x96x256 .bf16) (g : Fin 32) : FVec F S1x96x256 .bf16 := View.ld xs (slabRect g)

/-- The product of group `g`: its slab `X g` of rotated activations with its tile of weights. -/
def part (x1 : Vec F S4096x512 .i8) (x2 x3 : Vec F S64x512 .bf16) (X : Fin 32 → FVec F S1x96x256 .bf16) (g : Fin 32) : FVec F S96x512 .f32 :=
  matmul dot_S96x256_S256x512_S96x512_1_0_0_1_n_n none
    (shapeCast S96x256 (X g) shapeCasts_S1x96x256_S96x256)
    (tile
      (pairRow (View.ld x2 (Rect.unit ![0, 0] S32x512.size inb_S64x512_S32x512_0_0)) (View.ld x2 (Rect.unit ![32, 0] S32x512.size inb_S64x512_S32x512_32_0)) g)
      (pairRow (View.ld x3 (Rect.unit ![0, 0] S32x512.size inb_S64x512_S32x512_0_0)) (View.ld x3 (Rect.unit ![32, 0] S32x512.size inb_S64x512_S32x512_32_0)) g)
      (codes (F := F) (View.ld x1 (Rect.unit ![128 * g.val, 0] S128x512.size (inb_w g)))))
    (constant S96x512 .f32 0x00000000#32)

/-- The accumulator after the first `n` groups, from zero. -/
def acc (x1 : Vec F S4096x512 .i8) (x2 x3 : Vec F S64x512 .bf16) (X : Fin 32 → FVec F S1x96x256 .bf16) : (n : ℕ) → n ≤ 32 → FVec F S96x512 .f32
  | 0, _ => broadcast S96x512 (Scalar.ofBits .f32 0x00000000#32)
  | n + 1, h => addf (acc x1 x2 x3 X n (Nat.le_of_succ_le h)) (part x1 x2 x3 X ⟨n, h⟩)

/-- The block a run of the body stores: the accumulator after all 32 groups, as bf16. -/
def blockOut (x1 : Vec F S4096x512 .i8) (x2 x3 : Vec F S64x512 .bf16) (X : Fin 32 → FVec F S1x96x256 .bf16) : FVec F S96x512 .bf16 :=
  truncf .bf16 (acc x1 x2 x3 X 32 le_rfl) bitsLt_bf16_f32

/-- The 128 columns of `x` that start at `128 g` lie inside it, in the lower half … -/
theorem inb_lo (g : Fin 32) (a : Fin 2) : (![0, 128 * g.val] : Fin 2 → Nat) a + S96x128.size a ≤ S96x8192.size a := by
  fin_cases a
  · show 0 + 96 ≤ 96; omega
  · show 128 * g.val + 128 ≤ 8192; omega

/-- … and in the upper half. -/
theorem inb_hi (g : Fin 32) (a : Fin 2) : (![0, 4096 + 128 * g.val] : Fin 2 → Nat) a + S96x128.size a ≤ S96x8192.size a := by
  fin_cases a
  · show 0 + 96 ≤ 96; omega
  · show 4096 + 128 * g.val + 128 ≤ 8192; omega

/-- Slab `g` of the rotation: the two halves of the columns of group `g`, side by side, times the signs,
    scaled. -/
def rot (x : Vec F S96x8192 .bf16) (g : Fin 32) : FVec F S1x96x256 .bf16 :=
  k0_pay3 (View.ld x (Rect.unit ![0, 128 * g.val] S96x128.size (inb_lo g)))
    (View.ld x (Rect.unit ![0, 4096 + 128 * g.val] S96x128.size (inb_hi g)))

/-- The stores of the first `n` slabs of the rotation into the scratch, the last one first. -/
def slabs (x : Vec F S96x8192 .bf16) : (n : ℕ) → n ≤ 32 → List (View.Piece (Elt F) S32x96x256 .bf16)
  | 0, _ => []
  | n + 1, h => ⟨slabRect ⟨n, h⟩, rot x ⟨n, h⟩⟩ :: slabs x n (Nat.le_of_succ_le h)

/-- The rotated activations, whole. -/
def rotated (x : Vec F S96x8192 .bf16) : Vec F S32x96x256 .bf16 := fun i => rot x (i 0) (ix3 0 (i 1) (i 2))

/-- Every store of a slab writes the slab of the rotated activations that its rectangle names. -/
theorem slabs_agree (x : Vec F S96x8192 .bf16) : ∀ (n : ℕ) (h : n ≤ 32), ∀ p ∈ slabs x n h, ∀ y : p.1.shape.Idx,
    p.2 y = rotated x (p.1.emb y)
  | 0, _ => by intro p hp; simp [slabs] at hp
  | n + 1, h => by
    intro p hp
    rcases List.mem_cons.mp hp with rfl | hp
    · intro y
      show rot x ⟨n, h⟩ y = rotated x ((slabRect ⟨n, h⟩).emb y)
      show rot x ⟨n, h⟩ y = rot x ((slabRect ⟨n, h⟩).emb y 0) (ix3 0 ((slabRect ⟨n, h⟩).emb y 1) ((slabRect ⟨n, h⟩).emb y 2))
      have y0 : (y 0).val < 1 := (y 0).isLt
      have e0 : (slabRect ⟨n, h⟩).emb y 0 = (⟨n, h⟩ : Fin 32) := Fin.ext (by rw [Rect.emb_apply]; show n + 1 * (y 0).val = n; omega)
      have e1 : (ix3 0 ((slabRect ⟨n, h⟩).emb y 1) ((slabRect ⟨n, h⟩).emb y 2) : S1x96x256.Idx) = y := by
        funext a
        fin_cases a
        · exact Fin.ext (by show 0 = (y 0).val; omega)
        · exact Fin.ext (by show ((slabRect ⟨n, h⟩).emb y 1).val = (y 1).val; rw [Rect.emb_apply]; show 0 + 1 * (y 1).val = _; omega)
        · exact Fin.ext (by show ((slabRect ⟨n, h⟩).emb y 2).val = (y 2).val; rw [Rect.emb_apply]; show 0 + 1 * (y 2).val = _; omega)
      rw [e0, e1]
    · exact slabs_agree x n (Nat.le_of_succ_le h) p hp

/-- The store of slab `g` is among the first `n` stores when `g < n`. -/
theorem mem_slabs (x : Vec F S96x8192 .bf16) : ∀ (n : ℕ) (h : n ≤ 32) (g : Fin 32), g.val < n →
    (⟨slabRect g, rot x g⟩ : View.Piece (Elt F) S32x96x256 .bf16) ∈ slabs x n h
  | 0, _, _, hg => absurd hg (Nat.not_lt_zero _)
  | n + 1, h, g, hg => by
    rcases Nat.lt_succ_iff_lt_or_eq.mp hg with hg | hg
    · exact List.mem_cons_of_mem _ (mem_slabs x n (Nat.le_of_succ_le h) g hg)
    · obtain rfl : g = ⟨n, h⟩ := Fin.ext hg
      exact List.mem_cons_self

/-- The 32 slabs cover the scratch. -/
theorem slabs_cover (x : Vec F S96x8192 .bf16) (y : S32x96x256.Idx) : ∃ p ∈ slabs x 32 le_rfl, y ∈ p.1.set := by
  refine ⟨_, mem_slabs x 32 le_rfl (y 0) (y 0).isLt, ?_⟩
  show y ∈ (slabRect (y 0)).set
  rw [Rect.mem_set_unit]
  intro a
  fin_cases a
  · show (y 0).val ≤ (y 0).val ∧ (y 0).val < (y 0).val + 1; omega
  · show 0 ≤ (y 1).val ∧ (y 1).val < 0 + 96; have := (y 1).isLt; exact ⟨Nat.zero_le _, by rw [Nat.zero_add]; exact this⟩
  · show 0 ≤ (y 2).val ∧ (y 2).val < 0 + 256; have := (y 2).isLt; exact ⟨Nat.zero_le _, by rw [Nat.zero_add]; exact this⟩

/-- What the 32 stores leave is the rotated activations. -/
theorem canon_slabs (x : Vec F S96x8192 .bf16) : View.canon (slabs x 32 le_rfl) = rotated x :=
  funext fun y => View.canon_apply_of_pieces (rotated x) _ (slabs_agree x 32 le_rfl) y (slabs_cover x y)

/-- At a point that finds the scratch filled, the body stores `blockOut` of its blocks and the scratch. -/
theorem outB (c : Dev nD) (i : grid0.Coords) (arg1 : Memref sig .tc .vmem S96x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S64x512 .bf16) (harg4 : arg4.IsWhole) (arg5 : Memref sig .tc .vmem S96x512 .bf16) (harg5 : arg5.IsWhole) (arg6 : Memref sig .tc .vmem S32x96x256 .bf16) (harg6 : arg6.IsWhole) (hc0 : ¬cond0_0 i)
    (x0 : Vec F S96x8192 .bf16) (x1 : Vec F S4096x512 .i8) (x2 : Vec F S64x512 .bf16) (x3 : Vec F S64x512 .bf16) (xs0 : Vec F S32x96x256 .bf16) :
    out0_B_4 c i arg1 harg1 arg2 harg2 arg3 harg3 arg4 harg4 arg5 harg5 arg6 harg6 hc0 x0 x1 x2 x3 xs0 = blockOut x1 x2 x3 (slab xs0) := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero (h := by funext a; fin_cases a <;> rfl)]
  sl_unfold_words
  simp only [View.readAt_eq_ld, harg2.read_unread, harg3.read_unread, harg4.read_unread, harg6.read_unread]
  rfl

/-- At the first point, the body stores `blockOut` of its blocks and the rotated activations it has just stored. -/
theorem outA (c : Dev nD) (i : grid0.Coords) (arg1 : Memref sig .tc .vmem S96x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S64x512 .bf16) (harg4 : arg4.IsWhole) (arg5 : Memref sig .tc .vmem S96x512 .bf16) (harg5 : arg5.IsWhole) (arg6 : Memref sig .tc .vmem S32x96x256 .bf16) (harg6 : arg6.IsWhole) (hc0 : cond0_0 i)
    (x0 : Vec F S96x8192 .bf16) (x1 : Vec F S4096x512 .i8) (x2 : Vec F S64x512 .bf16) (x3 : Vec F S64x512 .bf16) :
    out0_A_4 c i arg1 harg1 arg2 harg2 arg3 harg3 arg4 harg4 arg5 harg5 arg6 harg6 hc0 x0 x1 x2 x3 = blockOut x1 x2 x3 (slab (rotated x0)) := by
  rw [show slab (rotated x0) = fun g => arg6.view.readCov (slabs x0 32 le_rfl) (slabRect g).toLoadRect from
    funext fun g => by rw [View.readCov_eq_canon_ld _ _ _ (slabs_cover x0), canon_slabs]; rfl]
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  rw [View.canon_unit_zero (h := by funext a; fin_cases a <;> rfl)]
  sl_unfold_words
  simp only [View.readAt_eq_ld, harg1.read_unread, harg2.read_unread, harg3.read_unread, harg4.read_unread]
  rfl

/-- The first point leaves the rotated activations in the scratch. -/
theorem soutA (c : Dev nD) (i : grid0.Coords) (arg1 : Memref sig .tc .vmem S96x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S64x512 .bf16) (harg4 : arg4.IsWhole) (arg5 : Memref sig .tc .vmem S96x512 .bf16) (harg5 : arg5.IsWhole) (arg6 : Memref sig .tc .vmem S32x96x256 .bf16) (harg6 : arg6.IsWhole) (hc0 : cond0_0 i)
    (x0 : Vec F S96x8192 .bf16) (x1 : Vec F S4096x512 .i8) (x2 : Vec F S64x512 .bf16) (x3 : Vec F S64x512 .bf16) :
    sout0_A_0 c i arg1 harg1 arg2 harg2 arg3 harg3 arg4 harg4 arg5 harg5 arg6 harg6 hc0 x0 x1 x2 x3 = rotated x0 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, harg1.read_unread]
  exact canon_slabs x0

end Cert.KernelIdeal.Hand

end
-- ==== Proof.Tile.lean ====
/- The terms of one run of the kernel's body read at an index, over extended reals: codes, tiles, products, the
   stored block as a sum, and the rotated activations. -/
module

public import proofs.«01_k».proof.Proof.Steps
public import Idealize.ShloMosaic.Lib.Pointwise

@[expose] public section

set_option maxRecDepth 16384

noncomputable section

open scoped BigOperators

namespace Cert.KernelIdeal.Hand

open Cert.KernelIdeal Cert.KernelIdeal.Gen Idealize.ShloMosaic Idealize.ShloMosaic.TcCoe Idealize.SL.Sem

/-- The interleaved rows at an index: even rows read the low half's row `g`, odd rows the high half's. -/
theorem pairRow_at (lo hi : FVec Ideal S32x512 .bf16) (g : Fin 32) (r : Fin 16) (b : Fin 512) :
    pairRow lo hi g (ix2 r b) = if r.val % 2 = 0 then lo (ix2 g b) else hi (ix2 g b) := by
  pointwise [pairRow]
  fin_cases r <;> rfl

/-- One four-bit code of a byte: the low bits for half `0`, the high bits for half `1`. -/
def nib (h : Fin 2) (w : BitVec 8) : BitVec 32 :=
  if h.val < 1 then IntOp.andi (BitVec.setWidth 32 w) 15#32 else IntOp.shrsi ArithUnit.vector (BitVec.setWidth 32 w) 4#32

/-- The codes at row `2 r + h`: half `h` of byte `r`. -/
theorem codes_at (w : Vec Ideal S128x512 .i8) (r : Fin 128) (h : Fin 2) (b : Fin 512) :
    codes (F := Ideal) w (ix2 ⟨r.val * 2 + h.val, by omega⟩ b) = nib h (w (ix2 r b)) := by
  pointwise [codes]
  rfl

/-- A tile at an index: the code less its zero point, times its scale. -/
theorem tile_at (s z : FVec Ideal S16x512 .bf16) (c : IVec S256x512 32) (k : Fin 256) (b : Fin 512) :
    tile s z c (ix2 k b) = (FloatOps.sitofp FTy.bf16 (c (ix2 k b)) - z (ix2 ⟨k.val % 16, by omega⟩ b)) * s (ix2 ⟨k.val % 16, by omega⟩ b) := by
  pointwise [tile]

/-- The weight of group `g`, row `r`, half `h`, column `b` of a block. -/
def wt (x1 : Vec Ideal S4096x512 .i8) (x2 x3 : Vec Ideal S64x512 .bf16) (g : Fin 32) (r : Fin 128) (h : Fin 2) (b : Fin 512) : EReal :=
  (FloatOps.sitofp (F := Ideal) FTy.bf16 (nib h (x1 (ix2 ⟨g.val * 128 + r.val, by omega⟩ b))) - x3 (ix2 ⟨h.val * 32 + g.val, by omega⟩ b))
    * x2 (ix2 ⟨h.val * 32 + g.val, by omega⟩ b)

/-- The halves of a `64 × 512` array, its first and its last 32 rows, read at row `g`. -/
theorem ld_half (x : Vec Ideal S64x512 .bf16) (g : Fin 32) (k : ℕ) (h : Fin 2) (e : k % 2 = h.val) (b : Fin 512) :
    (if k % 2 = 0 then (View.ld x (Rect.unit ![0, 0] S32x512.size inb_S64x512_S32x512_0_0) : FVec Ideal S32x512 .bf16) (ix2 g b) else (View.ld x (Rect.unit ![32, 0] S32x512.size inb_S64x512_S32x512_32_0) : FVec Ideal S32x512 .bf16) (ix2 g b))
      = x (ix2 ⟨h.val * 32 + g.val, by omega⟩ b) := by
  pointwise []
  fin_cases h
  · rw [if_pos e]
    exact congrArg (fun q => x (ix2 q b)) (Fin.ext (by show g.val = 0 * 32 + g.val; omega))
  · rw [if_neg (by rw [e]; exact Nat.one_ne_zero)]
    exact congrArg (fun q => x (ix2 q b)) (Fin.ext (by show 32 + g.val = 1 * 32 + g.val; omega))

/-- The 128 packed rows of group `g` read at row `r`. -/
theorem ld_rows (x : Vec Ideal S4096x512 .i8) (g : Fin 32) (r : Fin 128) (b : Fin 512) :
    (View.ld x (Rect.unit ![128 * g.val, 0] S128x512.size (inb_w g)) : Vec Ideal S128x512 .i8) (ix2 r b) = x (ix2 ⟨g.val * 128 + r.val, by omega⟩ b) := by
  pointwise []
  exact congrArg (fun q => x (ix2 q b)) (Fin.ext (by show 128 * g.val + r.val = g.val * 128 + r.val; omega))

/-- The product of group `g` at an index: the slab's row against the weights' column, row by row and half by half. -/
theorem part_at (x1 : Vec Ideal S4096x512 .i8) (x2 x3 : Vec Ideal S64x512 .bf16) (X : Fin 32 → FVec Ideal S1x96x256 .bf16) (g : Fin 32) (a : Fin 96) (b : Fin 512) :
    part x1 x2 x3 X g (ix2 a b) = ∑ r : Fin 128, ∑ h : Fin 2, X g (ix3 0 a ⟨r.val * 2 + h.val, by omega⟩) * wt x1 x2 x3 g r h b := by
  pointwise [part]
  rw [Fin.sum_univ_tiles 128 2 rfl]
  refine Finset.sum_congr rfl fun r _ => Finset.sum_congr rfl fun h _ => congrArg _ ?_
  rw [tile_at, pairRow_at, pairRow_at, codes_at]
  have e : (r.val * 2 + h.val) % 16 % 2 = h.val := by omega
  exact congrArg₂ (· * ·)
    (congrArg₂ (· - ·) (congrArg (fun w => FloatOps.sitofp (F := Ideal) FTy.bf16 (nib h w)) (ld_rows x1 g r b)) (ld_half x3 g _ h e b))
    (ld_half x2 g _ h e b)

/-- The accumulator after `n` groups is the sum of the first `n` products. -/
theorem acc_at (x1 : Vec Ideal S4096x512 .i8) (x2 x3 : Vec Ideal S64x512 .bf16) (X : Fin 32 → FVec Ideal S1x96x256 .bf16) (j : S96x512.Idx) :
    ∀ (n : ℕ) (h : n ≤ 32), acc x1 x2 x3 X n h j = ∑ g : Fin n, part x1 x2 x3 X ⟨g.val, by omega⟩ j
  | 0, _ => by
    rw [Fin.sum_univ_zero]
    exact Ideal.ofBits_zero_f32
  | n + 1, h => by
    rw [Fin.sum_univ_castSucc]
    exact congrArg (· + part x1 x2 x3 X ⟨n, h⟩ j) (acc_at x1 x2 x3 X j n (Nat.le_of_succ_le h))

/-- The stored block at an index: the sum over the groups and the rows of their tiles. -/
theorem blockOut_at (x1 : Vec Ideal S4096x512 .i8) (x2 x3 : Vec Ideal S64x512 .bf16) (X : Fin 32 → FVec Ideal S1x96x256 .bf16) (a : Fin 96) (b : Fin 512) :
    blockOut x1 x2 x3 X (ix2 a b) = ∑ g : Fin 32, ∑ r : Fin 128, ∑ h : Fin 2, X g (ix3 0 a ⟨r.val * 2 + h.val, by omega⟩) * wt x1 x2 x3 g r h b := by
  refine (acc_at x1 x2 x3 X (ix2 a b) 32 le_rfl).trans ?_
  exact Finset.sum_congr rfl fun g _ => part_at x1 x2 x3 X g a b

/-- The sign matrix at an index: in the half of the rows that column `k`'s parity names, the sign of the parity of
    the bits the row and `k / 2` share; zero in the other half. -/
theorem sign_at (r k : Fin 256) :
    k0_pay2 (F := Ideal) (ix2 r k) = Scalar.select (IntOp.cmpi .eq (IntOp.shrsi .vector (BitVec.ofNat 32 r.val) 7#32) (IntOp.andi (BitVec.ofNat 32 k.val) 1#32)) (FloatOps.sitofp (F := Ideal) .f32 (IntOp.subi 1#32 (IntOp.muli 2#32 (IntOp.andi (IntOp.ctpop (IntOp.andi (IntOp.andi (BitVec.ofNat 32 r.val) 127#32) (IntOp.shrsi .vector (BitVec.ofNat 32 k.val) 1#32))) 1#32)))) (0 : EReal) := by
  pointwise [k0_pay2]

/-- A slab of the rotation at an index: the two halves of the group's channels against a column of signs, scaled. -/
theorem rot_at (x : Vec Ideal S96x8192 .bf16) (g : Fin 32) (a : Fin 96) (k : Fin 256) :
    rot x g (ix3 0 a k) = (∑ r : Fin 128, x (ix2 a ⟨128 * g.val + r.val, by omega⟩) * k0_pay2 (F := Ideal) (ix2 ⟨r.val, by omega⟩ k)
      + ∑ r : Fin 128, x (ix2 a ⟨4096 + 128 * g.val + r.val, by omega⟩) * k0_pay2 (F := Ideal) (ix2 ⟨128 + r.val, by omega⟩ k)) * Ideal.ofBits FTy.f32 1035273459#32 := by
  pointwise [rot, k0_pay3]

/-- Slab `g` of the scratch read at an index. -/
theorem slab_at (xs : Vec Ideal S32x96x256 .bf16) (g : Fin 32) (a : Fin 96) (k : Fin 256) :
    slab xs g (ix3 0 a k) = xs (ix3 g a k) := by
  pointwise [slab]

/-- Slab `g` of the rotated activations is slab `g` of the rotation. -/
theorem slab_rotated (x : Vec Ideal S96x8192 .bf16) (g : Fin 32) (a : Fin 96) (k : Fin 256) :
    slab (rotated x) g (ix3 0 a k) = rot x g (ix3 0 a k) :=
  (slab_at (rotated x) g a k).trans rfl

end Cert.KernelIdeal.Hand

end
-- ==== Proof.Ref.lean ====
/- What the reference computes, read at an index: the Hadamard matrix, the rotated activations, the
   dequantized weights, and the result. -/
module

public import proofs.«01_k».proof.Proof.Gen.ReferenceIdeal.Run
public import Idealize.ShloMosaic.Lib.Pointwise

@[expose] public section

set_option maxRecDepth 16384

noncomputable section

open scoped BigOperators

namespace Cert.ReferenceIdeal.Hand

open Cert.ReferenceIdeal Cert.ReferenceIdeal.Gen Idealize.ShloMosaic Idealize.ShloMosaic.TcCoe Idealize.SL.Sem

/-- The scaled Hadamard matrix of the reference. -/
def had : FVec Ideal S128x128 .f32 :=
  mulf (sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))) (broadcastInDim S128x128 ![] bcast_S_S128x128 (constant S_ .f32 0x3DB504F3#32))

/-- The rotated activations: each run of 128 channels times the Hadamard matrix, the runs split in two halves. -/
def rotRef (x : FVec Ideal S96x1x8192 .bf16) : FVec Ideal S96x2x32x128 .bf16 :=
  truncf .bf16 (shapeCast _ (Host.dotGeneral dot_S96x64x128_S128x128_S96x64x128_2_0_01_1_n_n (some .fp32) (shapeCast _ (extf .f32 x bitsLt_bf16_f32) shapeCasts_S96x1x8192_S96x64x128) had) shapeCasts_S96x64x128_S96x2x32x128) bitsLt_bf16_f32

/-- The dequantized weights: low nibbles first, high nibbles second. -/
def wRef (p : IVec S4096x11264 8) (s z : FVec Ideal S64x11264 .bf16) : FVec Ideal S2x32x128x11264 .bf16 :=
  mulf (subf (sitofp .bf16 (concatenate S2x32x128x11264 0 [⟨S1x32x128x11264, (broadcastInDim S1x32x128x11264 ![1, 2, 3] bcast_S32x128x11264_S1x32x128x11264_1_2_3 (andi (shapeCast _ (extui 32 p natLt_8_32) shapeCasts_S4096x11264_S32x128x11264) (broadcastInDim S32x128x11264 ![] bcast_S_S32x128x11264 (constantI S_ 32 15#32))))⟩, ⟨S1x32x128x11264, (broadcastInDim S1x32x128x11264 ![1, 2, 3] bcast_S32x128x11264_S1x32x128x11264_1_2_3 (Host.shrsi (shapeCast _ (extui 32 p natLt_8_32) shapeCasts_S4096x11264_S32x128x11264) (broadcastInDim S32x128x11264 ![] bcast_S_S32x128x11264 (constantI S_ 32 4#32))))⟩] concatenates_S1x32x128x11264_S1x32x128x11264_S2x32x128x11264_d0)) (broadcastInDim S2x32x128x11264 ![0, 1, 2, 3] bcast_S2x32x1x11264_S2x32x128x11264_0_1_2_3 (shapeCast _ z shapeCasts_S64x11264_S2x32x1x11264))) (broadcastInDim S2x32x128x11264 ![0, 1, 2, 3] bcast_S2x32x1x11264_S2x32x128x11264_0_1_2_3 (shapeCast _ s shapeCasts_S64x11264_S2x32x1x11264))

/-- The reference's result. -/
def out (x : FVec Ideal S96x1x8192 .bf16) (p : IVec S4096x11264 8) (s z : FVec Ideal S64x11264 .bf16) : FVec Ideal S96x11264 .bf16 :=
  truncf .bf16 (Host.dotGeneral dot_S96x2x32x128_S2x32x128x11264_S96x11264_213_102_0_3_n_n none (rotRef x) (wRef p s z)) bitsLt_bf16_f32

/-- The Hadamard matrix at an index: the sign of the parity of the common bits, times the scale. -/
theorem had_at (r k : Fin 128) : had (ix2 r k) =
    FloatOps.sitofp .f32 (IntOp.subi 1#32 (IntOp.muli 2#32 (IntOp.andi (IntOp.ctpop (IntOp.andi (BitVec.ofNat 32 r.val) (BitVec.ofNat 32 k.val))) 1#32))) * Ideal.ofBits .f32 1035273459#32 := by
  pointwise [had]

/-- The rotated activations at an index: one run of 128 channels against one column of the Hadamard matrix. -/
theorem rotRef_at (x : FVec Ideal S96x1x8192 .bf16) (a : Fin 96) (h : Fin 2) (g : Fin 32) (k : Fin 128) :
    rotRef x (ix4 a h g k) = ∑ r : Fin 128, x (ix3 a 0 ⟨(h.val * 32 + g.val) * 128 + r.val, by omega⟩) * had (ix2 r k) := by
  pointwise [rotRef]

/-- The dequantized weights at an index: the code less its zero point, times its scale. -/
theorem wRef_at (p : IVec S4096x11264 8) (s z : FVec Ideal S64x11264 .bf16) (h : Fin 2) (g : Fin 32) (k : Fin 128) (n : Fin 11264) :
    wRef p s z (ix4 h g k n) =
      (FloatOps.sitofp FTy.bf16 (if h.val < 1 then IntOp.andi (BitVec.setWidth 32 (p (ix2 ⟨g.val * 128 + k.val, by omega⟩ n))) 15#32
          else IntOp.shrsi ArithUnit.host (BitVec.setWidth 32 (p (ix2 ⟨g.val * 128 + k.val, by omega⟩ n))) 4#32)
        - z (ix2 ⟨h.val * 32 + g.val, by omega⟩ n)) * s (ix2 ⟨h.val * 32 + g.val, by omega⟩ n) := by
  pointwise [wRef]
  rfl

/-- A contraction index of the three-axis product, from its coordinates: group, half, channel. -/
def cidx (g : Fin 32) (h : Fin 2) (k : Fin 128) : dot_S96x2x32x128_S2x32x128x11264_S96x11264_213_102_0_3_n_n.contr.Idx
  | ⟨0, _⟩ => g
  | ⟨1, _⟩ => h
  | ⟨2, _⟩ => k

/-- The coordinates determine the contraction index and are determined by it. -/
def cequiv : Fin 32 × Fin 2 × Fin 128 ≃ dot_S96x2x32x128_S2x32x128x11264_S96x11264_213_102_0_3_n_n.contr.Idx where
  toFun q := cidx q.1 q.2.1 q.2.2
  invFun q := (q (0 : Fin 3), q (1 : Fin 3), q (2 : Fin 3))
  left_inv q := rfl
  right_inv q := by
    funext a
    match a with
    | ⟨0, _⟩ => rfl
    | ⟨1, _⟩ => rfl
    | ⟨2, _⟩ => rfl

/-- A sum over the contraction indices is the triple sum over the coordinates. -/
theorem sum_contr (f : dot_S96x2x32x128_S2x32x128x11264_S96x11264_213_102_0_3_n_n.contr.Idx → EReal) :
    ∑ q, f q = ∑ g : Fin 32, ∑ h : Fin 2, ∑ k : Fin 128, f (cidx g h k) := by
  rw [← Equiv.sum_comp cequiv f, Fintype.sum_prod_type]
  refine Finset.sum_congr rfl fun h _ => ?_
  rw [Fintype.sum_prod_type]
  rfl

/-- The reference's result at an index: the sum over the groups, the two halves and the channels of a group. -/
theorem out_at (x : FVec Ideal S96x1x8192 .bf16) (p : IVec S4096x11264 8) (s z : FVec Ideal S64x11264 .bf16) (a : Fin 96) (n : Fin 11264) :
    out x p s z (ix2 a n) = ∑ g : Fin 32, ∑ h : Fin 2, ∑ k : Fin 128, rotRef x (ix4 a h g k) * wRef p s z (ix4 h g k n) := by
  pointwise [out]
  refine (zero_add _).trans ((sum_contr _).trans ?_)
  refine Finset.sum_congr rfl fun g _ => Finset.sum_congr rfl fun h _ => Finset.sum_congr rfl fun k _ => ?_
  refine congrArg₂ (· * ·) (congrArg (rotRef x) ?_) (congrArg (wRef p s z) ?_)
  · funext q; fin_cases q <;> rfl
  · funext q; fin_cases q <;> rfl

/-- Run from any memory, the reference leaves `out` of its arguments in its result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.Hand

end
-- ==== Proof.Equation.lean ====
/- The equation of the two programs over extended reals: a slab of the kernel's rotation is the reference's, and
   the block of a point is the reference's block. -/
module

public import proofs.«01_k».proof.Proof.Tile
public import proofs.«01_k».proof.Proof.Ref

@[expose] public section

set_option maxRecDepth 16384

noncomputable section

open scoped BigOperators

namespace Cert.KernelIdeal.Hand

open Cert.KernelIdeal Cert.KernelIdeal.Gen Idealize.ShloMosaic Idealize.ShloMosaic.TcCoe Idealize.SL.Sem
open Cert.ReferenceIdeal.Hand (had had_at rotRef rotRef_at wRef wRef_at out out_at)

/-- The scale of the Hadamard matrix is not negative. -/
theorem scale_nonneg : 0 ≤ Ideal.ofBits FTy.f32 1035273459#32 := by
  simp [Ideal.ofBits, Ideal.ieee, -EReal.coe_mul]

/-- The scale of the Hadamard matrix is finite. -/
theorem scale_ne_top : Ideal.ofBits FTy.f32 1035273459#32 ≠ ⊤ := by
  simp [Ideal.ofBits, Ideal.ieee, -EReal.coe_mul]

/-- A nonnegative finite factor goes into a sum. -/
theorem sum_mul_scale {n : ℕ} (f : Fin n → EReal) (s : EReal) (h0 : 0 ≤ s) (h1 : s ≠ ⊤) : (∑ r, f r) * s = ∑ r, f r * s := by
  induction n with
  | zero => simp
  | succ n ih =>
    rw [Fin.sum_univ_castSucc, Fin.sum_univ_castSucc, EReal.right_distrib_of_nonneg_of_ne_top h0 h1, ih]

/-- Shifting row `128 q + r` right by seven bits leaves `q`. -/
theorem row_half : ∀ (q : Fin 2) (r : Fin 128), IntOp.shrsi .vector (BitVec.ofNat 32 (128 * q.val + r.val)) 7#32 = BitVec.ofNat 32 q.val := by
  decide +kernel

/-- The low bit of column `2 k + h` is `h`. -/
theorem col_half : ∀ (k : Fin 128) (h : Fin 2), IntOp.andi (BitVec.ofNat 32 (k.val * 2 + h.val)) 1#32 = BitVec.ofNat 32 h.val := by
  decide +kernel

/-- Row `128 q + r` below its seventh bit is `r`. -/
theorem row_low : ∀ (q : Fin 2) (r : Fin 128), IntOp.andi (BitVec.ofNat 32 (128 * q.val + r.val)) 127#32 = BitVec.ofNat 32 r.val := by
  decide +kernel

/-- Column `2 k + h` without its low bit is `k`. -/
theorem col_high : ∀ (k : Fin 128) (h : Fin 2), IntOp.shrsi .vector (BitVec.ofNat 32 (k.val * 2 + h.val)) 1#32 = BitVec.ofNat 32 k.val := by
  decide +kernel

/-- Halves are compared by their numbers. -/
theorem cmp_half : ∀ q h : Fin 2, IntOp.cmpi .eq (BitVec.ofNat 32 q.val) (BitVec.ofNat 32 h.val) = if q = h then 1#1 else 0#1 := by
  decide

/-- The Hadamard sign of `r` and `k`: minus one to the number of bits they share. -/
def sgn (r k : Fin 128) : EReal :=
  FloatOps.sitofp (F := Ideal) .f32 (IntOp.subi 1#32 (IntOp.muli 2#32 (IntOp.andi (IntOp.ctpop (IntOp.andi (BitVec.ofNat 32 r.val) (BitVec.ofNat 32 k.val))) 1#32)))

/-- The sign matrix at row `128 q + r`, column `2 k + h`: the Hadamard sign where `q = h`, zero elsewhere. -/
theorem sign_half (q h : Fin 2) (r k : Fin 128) (i j : Fin 256) (hi : i.val = 128 * q.val + r.val) (hj : j.val = k.val * 2 + h.val) :
    (k0_pay2 (F := Ideal) (ix2 i j) : EReal) = if q = h then sgn r k else 0 := by
  rw [sign_at, hi, hj, row_half, col_half, row_low, col_high, cmp_half]
  unfold sgn
  split <;> rfl

/-- The half of the rows whose number is the column's contributes its signs, the other half nothing. -/
theorem half_sum (f : Fin 128 → EReal) (q h : Fin 2) (k : Fin 128) (i : Fin 128 → Fin 256) (j : Fin 256)
    (hi : ∀ r, (i r).val = 128 * q.val + r.val) (hj : j.val = k.val * 2 + h.val) :
    ∑ r : Fin 128, f r * (k0_pay2 (F := Ideal) (ix2 (i r) j) : EReal) = if q = h then ∑ r : Fin 128, f r * sgn r k else 0 := by
  by_cases e : q = h
  · rw [if_pos e]
    exact Finset.sum_congr rfl fun r _ => by rw [sign_half q h r k (i r) j (hi r) hj, if_pos e]
  · rw [if_neg e]
    exact Finset.sum_eq_zero fun r _ => by rw [sign_half q h r k (i r) j (hi r) hj, if_neg e, mul_zero]

/-- Slab `g` of the kernel's rotation at column `2 k + h` is the reference's rotation of half `h`, group `g`, channel `k`. -/
theorem rot_eq (x : FVec Ideal S96x8192 .bf16) (X : FVec Ideal S96x1x8192 .bf16) (hx : ∀ (a : Fin 96) (j : Fin 8192), x (ix2 a j) = X (ix3 a 0 j))
    (g : Fin 32) (a : Fin 96) (h : Fin 2) (k : Fin 128) :
    rot (F := Ideal) x g (ix3 0 a ⟨k.val * 2 + h.val, by omega⟩) = rotRef X (ix4 a h g k) := by
  rw [rot_at, rotRef_at,
    half_sum (fun r => x (ix2 a ⟨128 * g.val + r.val, by omega⟩)) 0 h k (fun r => ⟨r.val, by omega⟩) ⟨k.val * 2 + h.val, by omega⟩ (fun r => by simp) rfl,
    half_sum (fun r => x (ix2 a ⟨4096 + 128 * g.val + r.val, by omega⟩)) 1 h k (fun r => ⟨128 + r.val, by omega⟩) ⟨k.val * 2 + h.val, by omega⟩ (fun r => by simp) rfl]
  have key : ∀ f : Fin 128 → EReal, (∀ r, f r = X (ix3 a 0 ⟨(h.val * 32 + g.val) * 128 + r.val, by omega⟩)) →
      (∑ r : Fin 128, f r * sgn r k) * Ideal.ofBits FTy.f32 1035273459#32
        = ∑ r : Fin 128, X (ix3 a 0 ⟨(h.val * 32 + g.val) * 128 + r.val, by omega⟩) * had (ix2 r k) := by
    intro f hf
    rw [sum_mul_scale _ _ scale_nonneg scale_ne_top]
    refine Finset.sum_congr rfl fun r _ => ?_
    rw [hf, had_at, mul_assoc]
    rfl
  have hh : ∀ q : Fin 2, q = 0 ∨ q = 1 := by decide
  rcases hh h with rfl | rfl
  · rw [if_pos rfl, if_neg (by decide), add_zero]
    refine key _ fun r => ?_
    rw [hx]
    exact congrArg (fun q => X (ix3 a 0 q)) (Fin.ext (by show 128 * g.val + r.val = (0 * 32 + g.val) * 128 + r.val; omega))
  · rw [if_neg (by decide), if_pos rfl, zero_add]
    refine key _ fun r => ?_
    rw [hx]
    exact congrArg (fun q => X (ix3 a 0 q)) (Fin.ext (by show 4096 + 128 * g.val + r.val = (1 * 32 + g.val) * 128 + r.val; omega))

/-- A weight of a block is the reference's weight of the same half, group, channel and column. -/
theorem wt_eq (x1 : Vec Ideal S4096x512 .i8) (x2 x3 : FVec Ideal S64x512 .bf16) (p : IVec S4096x11264 8) (s z : FVec Ideal S64x11264 .bf16)
    (n : Fin 11264) (b : Fin 512) (h1 : ∀ i : Fin 4096, x1 (ix2 i b) = p (ix2 i n)) (h2 : ∀ i : Fin 64, x2 (ix2 i b) = s (ix2 i n))
    (h3 : ∀ i : Fin 64, x3 (ix2 i b) = z (ix2 i n)) (g : Fin 32) (r : Fin 128) (h : Fin 2) :
    wt x1 x2 x3 g r h b = wRef p s z (ix4 h g r n) := by
  rw [wRef_at, wt, h1, h2, h3]
  rfl

/-- The block a point stores, over blocks that read columns `n` of the arguments at `b`, is the reference's result there. -/
theorem block_eq (x : FVec Ideal S96x8192 .bf16) (X : FVec Ideal S96x1x8192 .bf16) (hx : ∀ (a : Fin 96) (j : Fin 8192), x (ix2 a j) = X (ix3 a 0 j))
    (x1 : Vec Ideal S4096x512 .i8) (x2 x3 : FVec Ideal S64x512 .bf16) (p : IVec S4096x11264 8) (s z : FVec Ideal S64x11264 .bf16)
    (n : Fin 11264) (b : Fin 512) (h1 : ∀ i : Fin 4096, x1 (ix2 i b) = p (ix2 i n)) (h2 : ∀ i : Fin 64, x2 (ix2 i b) = s (ix2 i n))
    (h3 : ∀ i : Fin 64, x3 (ix2 i b) = z (ix2 i n)) (a : Fin 96) :
    blockOut (F := Ideal) x1 x2 x3 (slab (rotated x)) (ix2 a b) = out X p s z (ix2 a n) := by
  rw [blockOut_at, out_at]
  refine Finset.sum_congr rfl fun g _ => (Finset.sum_comm).trans ?_
  refine Finset.sum_congr rfl fun h _ => Finset.sum_congr rfl fun k _ => ?_
  refine congrArg₂ (· * ·) ((slab_rotated x g a _).trans (rot_eq x X hx g a h k)) (wt_eq x1 x2 x3 p s z n b h1 h2 h3 g k h)

end Cert.KernelIdeal.Hand

end
-- ==== Proof.Array.lean ====
/- What the kernel's result array holds after the run: the reference's result of the arguments. -/
module

public import proofs.«01_k».proof.Proof.Equation
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ReferenceIdeal.Hand (out)

variable (m : (ℓ : Loc nD τ sig) → Buf (Elt Ideal) ℓ)

/-- The blocks of grid point `t`: the whole activations, and column block `t` of every other array. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- There are 22 grid points. -/
theorem point_lt (t : Fin cfg0.N) : t.val < 22 := lt_of_lt_of_eq t.isLt N_0

/-- The block of activations at any point is the activation argument, its unit axis dropped. -/
theorem blk0 (c : Dev nD) (t : Fin cfg0.N) (a : Fin 96) (j : Fin 8192) :
    (iblk m c 0 t : FVec Ideal S96x8192 .bf16) (ix2 a j) = (m ((c : Thread nD τ).loc main_arg0) : FVec Ideal S96x1x8192 .bf16) (ix3 a 0 j) := by
  have e : ∀ X : FVec Ideal S96x1x8192 .bf16, shapeCast S96x8192 X shapeCasts_S96x1x8192_S96x8192 (ix2 a j) = X (ix3 a 0 j) := by
    intro X
    pointwise []
  blk_simp [iblk, idx t]
  entry_read
  refine Eq.trans (congrArg _ ?_) (e _)
  blk_ext [idx t]

/-- The block of packed codes at point `t`, read at column `b`: column `512 t + b` of the argument. -/
theorem blk1 (c : Dev nD) (t : Fin cfg0.N) (i : Fin 4096) (b : Fin 512) (n : Fin 11264) (hn : n.val = t.val * 512 + b.val) :
    (iblk m c 1 t : Vec Ideal S4096x512 .i8) (ix2 i b) = (m ((c : Thread nD τ).loc main_arg1) : IVec S4096x11264 8) (ix2 i n) := by
  blk_ext [iblk, V, idx t]

/-- The block of scales at point `t`, read at column `b`. -/
theorem blk2 (c : Dev nD) (t : Fin cfg0.N) (i : Fin 64) (b : Fin 512) (n : Fin 11264) (hn : n.val = t.val * 512 + b.val) :
    (iblk m c 2 t : FVec Ideal S64x512 .bf16) (ix2 i b) = (m ((c : Thread nD τ).loc main_arg2) : FVec Ideal S64x11264 .bf16) (ix2 i n) := by
  blk_ext [iblk, V, idx t]

/-- The block of zero points at point `t`, read at column `b`. -/
theorem blk3 (c : Dev nD) (t : Fin cfg0.N) (i : Fin 64) (b : Fin 512) (n : Fin 11264) (hn : n.val = t.val * 512 + b.val) :
    (iblk m c 3 t : FVec Ideal S64x512 .bf16) (ix2 i b) = (m ((c : Thread nD τ).loc main_arg3) : FVec Ideal S64x11264 .bf16) (ix2 i n) := by
  blk_ext [iblk, V, idx t]

/-- Every point sees the same block of activations. -/
theorem blk0_same (c : Dev nD) (t u : Fin cfg0.N) :
    (iblk m c 0 t : FVec Ideal S96x8192 .bf16) = (iblk m c 0 u : FVec Ideal S96x8192 .bf16) := by
  have e : ∀ X Y : FVec Ideal S96x8192 .bf16, (∀ a j, X (ix2 a j) = Y (ix2 a j)) → X = Y := by
    intro X Y h
    funext y
    idx_vars y
    exact h _ _
  exact e _ _ fun a j => (blk0 m c t a j).trans (blk0 m c u a j).symm

/-- After every point, the scratch holds the rotated activations. -/
theorem scratch (c : Dev nD) : ∀ (n : ℕ) (hn : n < cfg0.N), (outsAt0 m c n hn).2 = rotated (F := Ideal) (iblk m c 0 ⟨n, hn⟩)
  | n, hn => by
    by_cases h0 : n % 22 = 0
    · rw [outsAt0_A m c ⟨n, hn⟩ h0]
      dsimp only
      rw [soutA]
    · rw [outsAt0_B m c ⟨n, hn⟩ h0]
      refine (scratch c (n - 1) (Nat.lt_of_le_of_lt (Nat.sub_le _ _) hn)).trans ?_
      exact congrArg (rotated (F := Ideal)) (blk0_same m c _ _)
  termination_by n => n
  decreasing_by
    have : n ≠ 0 := fun h => h0 (by rw [h])
    omega

/-- The block every point stores, from its blocks and the rotated activations. -/
theorem stored (c : Dev nD) (t : Fin cfg0.N) :
    (outsAt0 m c t.val t.isLt).1 = blockOut (F := Ideal) (iblk m c 1 t) (iblk m c 2 t) (iblk m c 3 t) (slab (rotated (iblk m c 0 t))) := by
  by_cases h0 : t.val % 22 = 0
  · rw [outsAt0_A m c t h0]
    dsimp only
    rw [outA]
  · rw [outsAt0_B m c t h0]
    dsimp only
    rw [outB]
    exact congrArg (fun X => blockOut (F := Ideal) (iblk m c 1 t) (iblk m c 2 t) (iblk m c 3 t) (slab X))
      ((scratch m c (t.val - 1) _).trans (congrArg (rotated (F := Ideal)) (blk0_same m c _ t)))

/-- The kernel's result array after the run is the reference's result of the arguments. -/
theorem final (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, stored]
  idx_vars y
  have ht := point_lt t
  refine (block_eq _ (m ((c : Thread nD τ).loc main_arg0)) (blk0 m c t) _ _ _ (m ((c : Thread nD τ).loc main_arg1)) (m ((c : Thread nD τ).loc main_arg2)) (m ((c : Thread nD τ).loc main_arg3))
    ⟨t.val * 512 + y1.val, by omega⟩ y1 (fun i => blk1 m c t i y1 _ rfl) (fun i => blk2 m c t i y1 _ rfl) (fun i => blk3 m c t i y1 _ rfl) y0).trans ?_
  blk_ext [idx t]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Array
public import Idealize.ShloMosaic.Lib.Bf16Pair
public import Idealize.ShloMosaic.Lib.Quiescent
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem

/-- The kernel runs to completion from any memory, leaving its arguments unchanged and every counter at zero. -/
theorem frame_kernel : Cert.quiescent_Kernel (hKernel := Cert.Kernel.Gen.facts) := fun m ρ _ => Cert.Kernel.Gen.frame m ρ

/-- So does its idealization. -/
theorem frame_ideal : Cert.quiescent_KernelIdeal (hKernelIdeal := Cert.KernelIdeal.Gen.facts) := fun m ρ _ => Cert.KernelIdeal.Gen.frame m ρ

/-- So does the reference, which has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Hand.run m ρ)

/-- The idealization reads each pair of bf16 halves packed in a word as the two halves it holds. -/
theorem preserves : Cert.preserves_Kernel_KernelIdeal :=
  ⟨IdealRules.bf16_pair.halfStatement _, IdealRules.bf16_pair.statement _ _⟩

/-- Over extended reals the kernel's result is the reference's, for all arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.ReferenceIdeal.Hand.out (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3)), ?_, ?_⟩
  · exact (θ_run Cert.KernelIdeal.defs _ _).mono (fun r h c => ⟨(h c).1.trans (Cert.KernelIdeal.Hand.final m c), (h c).2⟩)
      (Cert.KernelIdeal.Value.run_blocks m g)
  · refine (θ_run Cert.ReferenceIdeal.defs _ _).mono (fun r h c => ⟨(h c).1.trans ?_, (h c).2⟩) (Cert.ReferenceIdeal.Hand.run m' g')
    obtain ⟨e0, e1, e2, e3⟩ := hagree c
    rw [e0, e1, e2, e3]

/-- The claims together. -/
theorem claim : Cert.Claim := ⟨Cert.Kernel.Gen.facts, Cert.KernelIdeal.Gen.facts, Cert.ReferenceIdeal.Gen.facts,
  frame_kernel, frame_ideal, frame_reference, preserves, algebraic⟩

end Cert.Proof

end
